-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S2x8x16x128
  ∧ IdealRules.bf16_pair.Statement Cert.KernelIdeal.S2x1x32x128 Cert.KernelIdeal.S2x1x16x128

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S6x8x16x1280 : Shape := ⟨4, ![6, 8, 16, 1280]⟩
abbrev S6x8x16 : Shape := ⟨3, ![6, 8, 16]⟩
abbrev S3x3x1280x1152 : Shape := ⟨4, ![3, 3, 1280, 1152]⟩
abbrev S1152 : Shape := ⟨1, ![1152]⟩
abbrev S_ : Shape := ⟨0, ![]⟩

class Facts : Prop where
  bcast_S_S6x8x16 : S_.BroadcastsInDim S6x8x16 (![] : Fin 0 → Fin S6x8x16.rank)
  reducesTo_S6x8x16_S_d0_1_2 : S6x8x16.ReducesTo [0, 1, 2] S_
  h_S_ : 0 < S_.numel

variable [Facts]

def fn {F : FTy → Type} [FloatOps F] (main_arg0 : FVec F S6x8x16x1280 .fp8e4m3) (main_arg1 : FVec F S6x8x16 .f32) (main_arg2 : FVec F S3x3x1280x1152 .fp8e4m3) (main_arg3 : FVec F S1152 .f32) (main_arg4 : FVec F S1152 .f32) : IVec S_ 1 :=
  let main_cst : FVec F S_ .f32 := constant S_ .f32 0x00000000#32
  let main_v0 : FVec F S6x8x16 .f32 := broadcastInDim S6x8x16 ![] bcast_S_S6x8x16 main_cst
  let main_v1 : IVec S6x8x16 1 := cmpf .oge main_arg1 main_v0
  let main_cst_0 : FVec F S_ .f32 := constant S_ .f32 0x7F800000#32
  let main_v2 : FVec F S6x8x16 .f32 := broadcastInDim S6x8x16 ![] bcast_S_S6x8x16 main_cst_0
  let main_v3 : IVec S6x8x16 1 := cmpf .olt main_arg1 main_v2
  let main_v4 : IVec S6x8x16 1 := andi main_v1 main_v3
  let main_c : IVec S_ 1 := constantI S_ 1 1#1
  let main_v5 : IVec S_ 1 := (fun x v => Host.reduce IntOp.andi x v reducesTo_S6x8x16_S_d0_1_2 h_S_) main_v4 main_c
  main_v5
-- ==== Kernel.lean ====
abbrev S6x8x16x1280 : Shape := ⟨4, ![6, 8, 16, 1280]⟩
abbrev S6x8x16 : Shape := ⟨3, ![6, 8, 16]⟩
abbrev S3x3x1280x1152 : Shape := ⟨4, ![3, 3, 1280, 1152]⟩
abbrev S1152 : Shape := ⟨1, ![1152]⟩
abbrev S1x1152 : Shape := ⟨2, ![1, 1152]⟩
abbrev S6x16x32x1152 : Shape := ⟨4, ![6, 16, 32, 1152]⟩
abbrev S3x3x1280x128 : Shape := ⟨4, ![3, 3, 1280, 128]⟩
abbrev S1x128 : Shape := ⟨2, ![1, 128]⟩
abbrev S6x16x32x128 : Shape := ⟨4, ![6, 16, 32, 128]⟩
abbrev S1x1x1x128 : Shape := ⟨4, ![1, 1, 1, 128]⟩
abbrev S2x8x16x1280 : Shape := ⟨4, ![2, 8, 16, 1280]⟩
abbrev S256x1280 : Shape := ⟨2, ![256, 1280]⟩
abbrev S2x8x16 : Shape := ⟨3, ![2, 8, 16]⟩
abbrev S2x8x16x1 : Shape := ⟨4, ![2, 8, 16, 1]⟩
abbrev S2x8x16x128 : Shape := ⟨4, ![2, 8, 16, 128]⟩
abbrev S1x1x1280x128 : Shape := ⟨4, ![1, 1, 1280, 128]⟩
abbrev S1280x128 : Shape := ⟨2, ![1280, 128]⟩
abbrev S1280x256 : Shape := ⟨2, ![1280, 256]⟩
abbrev S256x256 : Shape := ⟨2, ![256, 256]⟩
abbrev S256x128 : Shape := ⟨2, ![256, 128]⟩
abbrev S2x1x16x128 : Shape := ⟨4, ![2, 1, 16, 128]⟩
abbrev S2x7x16x128 : Shape := ⟨4, ![2, 7, 16, 128]⟩
abbrev S2x8x1x128 : Shape := ⟨4, ![2, 8, 1, 128]⟩
abbrev S2x8x15x128 : Shape := ⟨4, ![2, 8, 15, 128]⟩
abbrev S2x16x128 : Shape := ⟨3, ![2, 16, 128]⟩
abbrev S6x16x16x128 : Shape := ⟨4, ![6, 16, 16, 128]⟩
abbrev S2x1x32x128 : Shape := ⟨4, ![2, 1, 32, 128]⟩

abbrev nBuf : Space → Nat
  | .hbm => 8
  | .vmem => 10
  | .smem => 0
  | _ => 0

abbrev bufTy : (tb : Table) → Fin (tcTables nBuf tb) → BufTy
  | .hbm, ⟨0, _⟩ => ⟨S6x8x16x1280, .fp8e4m3⟩
  | .hbm, ⟨1, _⟩ => ⟨S6x8x16, .f32⟩
  | .hbm, ⟨2, _⟩ => ⟨S3x3x1280x1152, .fp8e4m3⟩
  | .hbm, ⟨3, _⟩ => ⟨S1152, .f32⟩
  | .hbm, ⟨4, _⟩ => ⟨S1152, .f32⟩
  | .hbm, ⟨5, _⟩ => ⟨S1x1152, .f32⟩
  | .hbm, ⟨6, _⟩ => ⟨S1x1152, .f32⟩
  | .hbm, ⟨7, _⟩ => ⟨S6x16x32x1152, .bf16⟩
  | .local _ .vmem, ⟨0, _⟩ => ⟨S6x8x16x1280, .fp8e4m3⟩
  | .local _ .vmem, ⟨1, _⟩ => ⟨S6x8x16, .f32⟩
  | .local _ .vmem, ⟨2, _⟩ => ⟨S3x3x1280x128, .fp8e4m3⟩
  | .local _ .vmem, ⟨3, _⟩ => ⟨S3x3x1280x128, .fp8e4m3⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S6x16x32x128, .bf16⟩
  | .local _ .vmem, ⟨9, _⟩ => ⟨S6x16x32x128, .bf16⟩
  | _, _ => ⟨S6x8x16x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![9], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .vmem S6x8x16x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x3x1280x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x16x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S6x8x16x1280 : Shape := ⟨4, ![6, 8, 16, 1280]⟩
abbrev S6x8x16 : Shape := ⟨3, ![6, 8, 16]⟩
abbrev S3x3x1280x1152 : Shape := ⟨4, ![3, 3, 1280, 1152]⟩
abbrev S1152 : Shape := ⟨1, ![1152]⟩
abbrev S6x16x32x1152 : Shape := ⟨4, ![6, 16, 32, 1152]⟩
abbrev S6x8x16x1 : Shape := ⟨4, ![6, 8, 16, 1]⟩
abbrev S6x8x1x16x1280 : Shape := ⟨5, ![6, 8, 1, 16, 1280]⟩
abbrev S6x8x2x16x1280 : Shape := ⟨5, ![6, 8, 2, 16, 1280]⟩
abbrev S6x16x16x1280 : Shape := ⟨4, ![6, 16, 16, 1280]⟩
abbrev S6x16x16x1x1280 : Shape := ⟨5, ![6, 16, 16, 1, 1280]⟩
abbrev S6x16x16x2x1280 : Shape := ⟨5, ![6, 16, 16, 2, 1280]⟩
abbrev S6x16x32x1280 : Shape := ⟨4, ![6, 16, 32, 1280]⟩
abbrev S6x1x32x1280 : Shape := ⟨4, ![6, 1, 32, 1280]⟩
abbrev S6x18x32x1280 : Shape := ⟨4, ![6, 18, 32, 1280]⟩
abbrev S6x18x1x1280 : Shape := ⟨4, ![6, 18, 1, 1280]⟩
abbrev S6x18x34x1280 : Shape := ⟨4, ![6, 18, 34, 1280]⟩
abbrev S1x1x1280x1152 : Shape := ⟨4, ![1, 1, 1280, 1152]⟩
abbrev S1280x1152 : Shape := ⟨2, ![1280, 1152]⟩
abbrev S1x1x1x1152 : Shape := ⟨4, ![1, 1, 1, 1152]⟩

abbrev nBuf : Space → Nat
  | .hbm => 6
  | .vmem => 6
  | .smem => 0
  | _ => 0

abbrev bufTy : (tb : Table) → Fin (tcTables nBuf tb) → BufTy
  | .hbm, ⟨0, _⟩ => ⟨S6x8x16x1280, .fp8e4m3⟩
  | .hbm, ⟨1, _⟩ => ⟨S6x8x16, .f32⟩
  | .hbm, ⟨2, _⟩ => ⟨S3x3x1280x1152, .fp8e4m3⟩
  | .hbm, ⟨3, _⟩ => ⟨S1152, .f32⟩
  | .hbm, ⟨4, _⟩ => ⟨S1152, .f32⟩
  | .hbm, ⟨5, _⟩ => ⟨S6x16x32x1152, .bf16⟩
  | .local _ .vmem, ⟨0, _⟩ => ⟨S6x8x16x1280, .fp8e4m3⟩
  | .local _ .vmem, ⟨1, _⟩ => ⟨S6x8x16, .f32⟩
  | .local _ .vmem, ⟨2, _⟩ => ⟨S3x3x1280x1152, .fp8e4m3⟩
  | .local _ .vmem, ⟨3, _⟩ => ⟨S1152, .f32⟩
  | .local _ .vmem, ⟨4, _⟩ => ⟨S1152, .f32⟩
  | .local _ .vmem, ⟨5, _⟩ => ⟨S6x16x32x1152, .bf16⟩
  | _, _ => ⟨S6x8x16x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x8x16x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x1280x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x16x32x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Source.lean ====
/-
  Which pixel a tap reads. An output row (column) of the upsampled, edge-padded image, displaced by a tap's row (column),
  is a row (column) of the image: clamp into the upsampled image, then halve.
-/
module

public import Mathlib.Data.EReal.Basic
public import Mathlib.Algebra.BigOperators.Fin

@[expose] public section

noncomputable section

namespace Cert.Upsample

/-- The image row that row `k` of the filter reads for output row `r`: clamped to the upsampled image's 16 rows, halved. -/
def row (r : Fin 16) (k : Fin 3) : Fin 8 := ⟨min (r.val + k.val - 1) 15 / 2, by omega⟩

/-- The image column that column `k` of the filter reads for output column `j`: clamped to 32 columns, halved. -/
def col (j : Fin 32) (k : Fin 3) : Fin 16 := ⟨min (j.val + k.val - 1) 31 / 2, by omega⟩

/-- Output row `2 i + r`: the row of parity `r` of image row `i`. -/
def rowOf (r : Fin 2) (i : Fin 8) : Fin 16 := ⟨2 * i.val + r.val, by omega⟩

/-- Output column `2 j + e`: the column of parity `e` of image column `j`. -/
def colOf (e : Fin 2) (j : Fin 16) : Fin 32 := ⟨2 * j.val + e.val, by omega⟩

/-- The nine taps' products added up at output row `r` and column `j`: `t kh kw` at the pixel tap `(kh, kw)` reads. -/
def nine (t : Fin 3 → Fin 3 → Fin 8 → Fin 16 → EReal) (r : Fin 16) (j : Fin 32) : EReal :=
  ∑ kh : Fin 3, ∑ kw : Fin 3, t kh kw (row r kh) (col j kw)

/-! Which row and column each tap reads, parity by parity: an even row reads the row before it once and itself twice, an odd
row itself twice and the row after it once; the same of columns. -/

/-- At the first even row the filter's row 0 reads the row itself: the edge is repeated. -/
theorem row_even_first (i : Fin 8) (h : i.val < 1) : row (rowOf 0 i) 0 = i := Fin.ext (by simp [row, rowOf]; omega)
/-- At a later even row the filter's row 0 reads the row before. -/
theorem row_even_before (i : Fin 8) (h : ¬ i.val < 1) : row (rowOf 0 i) 0 = ⟨i.val - 1, by omega⟩ :=
  Fin.ext (by simp [row, rowOf]; omega)
/-- At an even row the filter's row 1 reads the row itself. -/
theorem row_even_one (i : Fin 8) : row (rowOf 0 i) 1 = i := Fin.ext (by simp [row, rowOf]; omega)
/-- At an even row the filter's row 2 reads the row itself. -/
theorem row_even_two (i : Fin 8) : row (rowOf 0 i) 2 = i := Fin.ext (by simp [row, rowOf]; omega)
/-- At an odd row the filter's row 0 reads the row itself. -/
theorem row_odd_zero (i : Fin 8) : row (rowOf 1 i) 0 = i := Fin.ext (by simp [row, rowOf]; omega)
/-- At an odd row the filter's row 1 reads the row itself. -/
theorem row_odd_one (i : Fin 8) : row (rowOf 1 i) 1 = i := Fin.ext (by simp [row, rowOf]; omega)
/-- At an odd row other than the last the filter's row 2 reads the row after. -/
theorem row_odd_after (i : Fin 8) (h : i.val < 7) : row (rowOf 1 i) 2 = ⟨1 + i.val, by omega⟩ :=
  Fin.ext (by simp [row, rowOf]; omega)
/-- At the last odd row the filter's row 2 reads the last row: the edge is repeated. -/
theorem row_odd_last (i : Fin 8) (h : ¬ i.val < 7) : row (rowOf 1 i) 2 = ⟨7 + (i.val - 7), by omega⟩ :=
  Fin.ext (by simp [row, rowOf]; omega)

/-- At the first even column the filter's column 0 reads the column itself: the edge is repeated. -/
theorem col_even_first (j : Fin 16) (h : j.val < 1) : col (colOf 0 j) 0 = j := Fin.ext (by simp [col, colOf]; omega)
/-- At a later even column the filter's column 0 reads the column before. -/
theorem col_even_before (j : Fin 16) (h : ¬ j.val < 1) : col (colOf 0 j) 0 = ⟨j.val - 1, by omega⟩ :=
  Fin.ext (by simp [col, colOf]; omega)
/-- At an even column the filter's column 1 reads the column itself. -/
theorem col_even_one (j : Fin 16) : col (colOf 0 j) 1 = j := Fin.ext (by simp [col, colOf]; omega)
/-- At an even column the filter's column 2 reads the column itself. -/
theorem col_even_two (j : Fin 16) : col (colOf 0 j) 2 = j := Fin.ext (by simp [col, colOf]; omega)
/-- At an odd column the filter's column 0 reads the column itself. -/
theorem col_odd_zero (j : Fin 16) : col (colOf 1 j) 0 = j := Fin.ext (by simp [col, colOf]; omega)
/-- At an odd column the filter's column 1 reads the column itself. -/
theorem col_odd_one (j : Fin 16) : col (colOf 1 j) 1 = j := Fin.ext (by simp [col, colOf]; omega)
/-- At an odd column other than the last the filter's column 2 reads the column after. -/
theorem col_odd_after (j : Fin 16) (h : j.val < 15) : col (colOf 1 j) 2 = ⟨1 + j.val, by omega⟩ :=
  Fin.ext (by simp [col, colOf]; omega)
/-- At the last odd column the filter's column 2 reads the last column: the edge is repeated. -/
theorem col_odd_last (j : Fin 16) (h : ¬ j.val < 15) : col (colOf 1 j) 2 = ⟨15 + (j.val - 15), by omega⟩ :=
  Fin.ext (by simp [col, colOf]; omega)

end Cert.Upsample

end
-- ==== Proof.Chunk.lean ====
/-
  What the kernel computes of one pair of images, at the ideal instance: the nine products of the pixels with one tap of the
  filter, scaled pixel by pixel, and their sums by row parity and column parity.
-/
module

public import proofs.«01_k».proof.Proof.Source
public import proofs.«01_k».proof.Proof.Gen.KernelIdeal.Frame
public import Idealize.ShloMosaic.Lib.Pointwise

@[expose] public section

noncomputable section

namespace Cert.KernelIdeal.Chunk

open Idealize.ShloMosaic Cert.KernelIdeal Cert.KernelIdeal.Gen Cert.Upsample

/-- One tap's product at a pixel: the pixel's channels against the tap's column, times the pixel's scale. -/
def tap (x : Vec Ideal S2x8x16x1280 .fp8e4m3) (s : Vec Ideal S2x8x16 .f32) (w : Vec Ideal S1x1x1280x128 .fp8e4m3) :
    FVec Ideal S2x8x16x128 .f32 := fun q =>
  (∑ d : Fin 1280, x (ix4 (q 0) (q 1) (q 2) d) * w (ix4 0 0 d (q 3))) * s (ix3 (q 0) (q 1) (q 2))

variable (x : Vec Ideal S2x8x16x1280 .fp8e4m3) (s : Vec Ideal S2x8x16 .f32) (w w' : Vec Ideal S1x1x1280x128 .fp8e4m3)

/-- The left half of a product with two taps side by side is the first tap's. -/
theorem tap_left : k0_pay7 x s w w' = tap x s w := by
  funext q
  pointwise [k0_pay7, k0_pay6, k0_pay5, k0_pay4, tap, dot_S256x1280_S1280x256_S256x256_1_0_0_1_n_n]

/-- The right half of a product with two taps side by side is the second tap's. -/
theorem tap_right : k0_pay8 x s w w' = tap x s w' := by
  funext q
  pointwise [k0_pay8, k0_pay6, k0_pay5, k0_pay4, tap, dot_S256x1280_S1280x256_S256x256_1_0_0_1_n_n]

/-- The product with one tap alone is that tap's. -/
theorem tap_alone : k0_pay19 (k0_pay4 x) (k0_pay5 s) w = tap x s w := by
  funext q
  pointwise [k0_pay19, k0_pay5, k0_pay4, tap, dot_S256x1280_S1280x128_S256x128_1_0_0_1_n_n]

section Phases

/-- Rows of parity `r`: at each pixel, the three arrays added up, each at the row its row of the filter reads. -/
def rows (r : Fin 2) (p : Fin 3 → FVec Ideal S2x8x16x128 .f32) : FVec Ideal S2x8x16x128 .f32 := fun q =>
  ∑ kh : Fin 3, p kh (ix4 (q 0) (row (rowOf r (q 1)) kh) (q 2) (q 3))

/-- Columns of parity `e`, scaled and shifted channel by channel: the three arrays added up, each at the column its column
    of the filter reads. -/
def cols (ws b : FVec Ideal S1x1x1x128 .f32) (e : Fin 2) (a : Fin 3 → FVec Ideal S2x8x16x128 .f32) :
    FVec Ideal S2x8x16x128 .bf16 := fun q =>
  (∑ kw : Fin 3, a kw (ix4 (q 0) (q 1) (col (colOf e (q 2)) kw) (q 3))) * ws (ix4 0 0 0 (q 3)) + b (ix4 0 0 0 (q 3))

/-- The kernel's even rows: the first array a row down, its first row repeated, plus the two others. -/
theorem rows_even (p : Fin 3 → FVec Ideal S2x8x16x128 .f32) : k0_pay20 (p 0) (p 1) (p 2) = rows 0 p := by
  funext q
  pointwise [k0_pay20, rows, Fin.sum_univ_three, row_even_one, row_even_two]
  split
  · rename_i h; pointwise [row_even_first _ h, add_assoc]
  · rename_i h; pointwise [row_even_before _ h, add_assoc]

/-- The kernel's odd rows: the first two arrays, plus the third a row up, its last row repeated. -/
theorem rows_odd (p : Fin 3 → FVec Ideal S2x8x16x128 .f32) : k0_pay21 (p 0) (p 1) (p 2) = rows 1 p := by
  funext q
  pointwise [k0_pay21, rows, Fin.sum_univ_three, row_odd_zero, row_odd_one]
  split
  · rename_i h; pointwise [row_odd_after _ h]
  · rename_i h; pointwise [row_odd_last _ h]

variable (ws b : FVec Ideal S1x1x1x128 .f32)

/-- The kernel's even columns, scaled and shifted, likewise. -/
theorem cols_even (a : Fin 3 → FVec Ideal S2x8x16x128 .f32) : k0_pay45 ws b (a 0) (a 1) (a 2) = cols ws b 0 a := by
  funext q
  pointwise [k0_pay45, cols, Fin.sum_univ_three, col_even_one, col_even_two]
  split
  · rename_i h; pointwise [col_even_first _ h, add_assoc]
  · rename_i h; pointwise [col_even_before _ h, add_assoc]

/-- The kernel's odd columns, scaled and shifted, likewise. -/
theorem cols_odd (a : Fin 3 → FVec Ideal S2x8x16x128 .f32) : k0_pay46 ws b (a 0) (a 1) (a 2) = cols ws b 1 a := by
  funext q
  pointwise [k0_pay46, cols, Fin.sum_univ_three, col_odd_zero, col_odd_one]
  split
  · rename_i h; pointwise [col_odd_after _ h]
  · rename_i h; pointwise [col_odd_last _ h]

/-- The output value of parities `(r, e)` at the pixel `q`: the nine taps' products, each at the pixel it reads. -/
def phase (p : Fin 3 → Fin 3 → FVec Ideal S2x8x16x128 .f32) (r e : Fin 2) : FVec Ideal S2x8x16x128 .bf16 := fun q =>
  nine (fun kh kw i j => p kh kw (ix4 (q 0) i j (q 3))) (rowOf r (q 1)) (colOf e (q 2)) * ws (ix4 0 0 0 (q 3))
    + b (ix4 0 0 0 (q 3))

/-- Adding up rows first and columns after is the nine-term sum. -/
theorem cols_rows (p : Fin 3 → Fin 3 → FVec Ideal S2x8x16x128 .f32) (r e : Fin 2) :
    cols ws b e (fun kw => rows r (fun kh => p kh kw)) = phase ws b p r e := by
  funext q
  show (∑ kw : Fin 3, ∑ kh : Fin 3, p kh kw (ix4 (q 0) (row (rowOf r (q 1)) kh) (col (colOf e (q 2)) kw) (q 3))) * _ + _ = _
  rw [Finset.sum_comm]
  rfl

end Phases

/-- The rows of parity `r` as the kernel computes them of the three arrays of one filter column. -/
def rowsOf : Fin 2 → FVec Ideal S2x8x16x128 .f32 → FVec Ideal S2x8x16x128 .f32 → FVec Ideal S2x8x16x128 .f32 →
    FVec Ideal S2x8x16x128 .f32
  | 0 => k0_pay20
  | 1 => k0_pay21

/-- The columns of parity `e` as the kernel computes them of the rows of the three filter columns. -/
def colsOf : Fin 2 → FVec Ideal S1x1x1x128 .f32 → FVec Ideal S1x1x1x128 .f32 → FVec Ideal S2x8x16x128 .f32 →
    FVec Ideal S2x8x16x128 .f32 → FVec Ideal S2x8x16x128 .f32 → FVec Ideal S2x8x16x128 .bf16
  | 0 => k0_pay45
  | 1 => k0_pay46

/-- One half of the packed words as the kernel computes it: the values of row parity `r` and column parity `e`, from the
    pixels, their scales, the nine taps (taken two by two, the last one alone), the channels' scales and biases. -/
def half (w : Fin 3 → Fin 3 → Vec Ideal S1x1x1280x128 .fp8e4m3) (ws b : FVec Ideal S1x1x1x128 .f32) (r e : Fin 2) :
    FVec Ideal S2x8x16x128 .bf16 :=
  colsOf e ws b
    (rowsOf r (k0_pay7 x s (w 0 0) (w 0 1)) (k0_pay8 x s (w 0 2) (w 1 0)) (k0_pay7 x s (w 2 0) (w 2 1)))
    (rowsOf r (k0_pay8 x s (w 0 0) (w 0 1)) (k0_pay7 x s (w 1 1) (w 1 2)) (k0_pay8 x s (w 2 0) (w 2 1)))
    (rowsOf r (k0_pay7 x s (w 0 2) (w 1 0)) (k0_pay8 x s (w 1 1) (w 1 2)) (k0_pay19 (k0_pay4 x) (k0_pay5 s) (w 2 2)))

/-- Each half holds, at each pixel, the nine-term sum of its parities. -/
theorem half_eq (w : Fin 3 → Fin 3 → Vec Ideal S1x1x1280x128 .fp8e4m3) (ws b : FVec Ideal S1x1x1x128 .f32) (r e : Fin 2) :
    half x s w ws b r e = phase ws b (fun kh kw => tap x s (w kh kw)) r e := by
  have hr : ∀ p : Fin 3 → FVec Ideal S2x8x16x128 .f32, rowsOf r (p 0) (p 1) (p 2) = rows r p := fun p => by
    fin_cases r
    · exact rows_even p
    · exact rows_odd p
  have hc : ∀ a : Fin 3 → FVec Ideal S2x8x16x128 .f32, colsOf e ws b (a 0) (a 1) (a 2) = cols ws b e a := fun a => by
    fin_cases e
    · exact cols_even ws b a
    · exact cols_odd ws b a
  rw [half, tap_left, tap_left, tap_left, tap_left, tap_right, tap_right, tap_right, tap_right, tap_alone,
    hr (fun kh => tap x s (w kh 0)), hr (fun kh => tap x s (w kh 1)), hr (fun kh => tap x s (w kh 2)),
    hc (fun kw => rows r (fun kh => tap x s (w kh kw)))]
  exact cols_rows ws b (fun kh kw => tap x s (w kh kw)) r e

end Cert.KernelIdeal.Chunk
end
-- ==== Proof.Pieces.lean ====
/-
  The kernel's 48 stores: each is one row of parity `r` of one pair of images, the halves of its two column parities
  interleaved.
-/
module

public import proofs.«01_k».proof.Proof.Chunk
public import Idealize.ShloMosaic.Lib.Pipeline.ValueKit.Geometry

@[expose] public section

noncomputable section

namespace Cert.KernelIdeal.Pieces

open Idealize.ShloMosaic Cert.KernelIdeal Cert.KernelIdeal.Gen Cert.KernelIdeal.Chunk Cert.Upsample

variable (x0 : Vec Ideal S6x8x16x1280 .fp8e4m3) (x1 : Vec Ideal S6x8x16 .f32) (x2 : Vec Ideal S3x3x1280x128 .fp8e4m3)
  (x3 : Vec Ideal S1x128 .f32) (x4 : Vec Ideal S1x128 .f32)

/-- The pixels of image pair `c`. -/
def pixels (c : Fin 3) : Vec Ideal S2x8x16x1280 .fp8e4m3 :=
  View.ld x0 (Rect.unit (s := S6x8x16x1280) ![2 * c.val, 0, 0, 0] S2x8x16x1280.size
    (by intro a; fin_cases a <;> simp <;> omega))

/-- The pixel scales of image pair `c`. -/
def scales (c : Fin 3) : Vec Ideal S2x8x16 .f32 :=
  View.ld x1 (Rect.unit (s := S6x8x16) ![2 * c.val, 0, 0] S2x8x16.size (by intro a; fin_cases a <;> simp <;> omega))

/-- Tap `(kh, kw)` of the filter. -/
def weights (kh kw : Fin 3) : Vec Ideal S1x1x1280x128 .fp8e4m3 :=
  View.ld x2 (Rect.unit (s := S3x3x1280x128) ![kh.val, kw.val, 0, 0] S1x1x1280x128.size
    (by intro a; fin_cases a <;> simp <;> omega))

/-- The half of image pair `c` of parities `(r, e)`. -/
def halfOf (c : Fin 3) (r e : Fin 2) : FVec Ideal S2x8x16x128 .bf16 :=
  half (pixels x0 c) (scales x1 c) (weights x2) (k0_pay2 (View.ld x3 r0_0)) (k0_pay3 (View.ld x4 r0_0)) r e

/-- Where row `2 i + r` of image pair `c` is stored. -/
def place (c : Fin 3) (r : Fin 2) (i : Fin 8) : Rect S6x16x32x128 :=
  Rect.unit (s := S6x16x32x128) ![2 * c.val, 2 * i.val + r.val, 0, 0] S2x1x32x128.size
    (by intro a; fin_cases a <;> simp <;> omega)

/-- Row `i` of a half. -/
def rowAt (i : Fin 8) (h : FVec Ideal S2x8x16x128 .bf16) : FVec Ideal S2x1x16x128 .bf16 :=
  shapeCast S2x1x16x128 (shapeCast S2x16x128 (extractStridedSlice S2x1x16x128 ![0, i.val, 0, 0] h
    ⟨rfl, by intro a; fin_cases a <;> simp <;> omega⟩) shapeCasts_S2x1x16x128_S2x16x128) shapeCasts_S2x16x128_S2x1x16x128

/-- The store of row `2 i + r` of image pair `c`. -/
def piece (c : Fin 3) (r : Fin 2) (i : Fin 8) : View.Piece (Elt Ideal) S6x16x32x128 .bf16 :=
  ⟨place c r i, interleaveRows S2x1x32x128 (rowAt i (halfOf x0 x1 x2 x3 x4 c r 0)) (rowAt i (halfOf x0 x1 x2 x3 x4 c r 1))
    bitcasts_S2x1x32x128_w16_S2x1x16x128_w32⟩

/-- Every store of the body, last first. -/
def pieces : List (View.Piece (Elt Ideal) S6x16x32x128 .bf16) :=
  [2, 1, 0].flatMap fun c => [1, 0].flatMap fun r => [7, 6, 5, 4, 3, 2, 1, 0].map fun i => piece x0 x1 x2 x3 x4 c r i

/-- The body's output block is what these stores leave. -/
theorem out_eq : out0_5 x0 x1 x2 x3 x4 = View.canon (pieces x0 x1 x2 x3 x4) := by
  rfl

/-- The value of one tap at a pixel of the block's images and a channel of the block. -/
def tapAt (kh kw : Fin 3) (b : Fin 6) (i : Fin 8) (j : Fin 16) (n : Fin 128) : EReal :=
  (∑ d : Fin 1280, x0 (ix4 b i j d) * x2 (ix4 kh kw d n)) * x1 (ix3 b i j)

/-- The block's value at image `b`, row `r`, column `j` and channel `n`. -/
def blockVal (b : Fin 6) (r : Fin 16) (j : Fin 32) (n : Fin 128) : EReal :=
  nine (fun kh kw i j => tapAt x0 x1 x2 kh kw b i j n) r j * x3 (ix2 0 n) + x4 (ix2 0 n)

/-- Image `b` of pair `c`. -/
def image (c : Fin 3) (b : Fin 2) : Fin 6 := ⟨2 * c.val + b.val, by omega⟩

/-- A pair's pixels are its two images'. -/
theorem pixels_apply (c : Fin 3) (b : Fin 2) (i : Fin 8) (j : Fin 16) (d : Fin 1280) :
    pixels x0 c (ix4 b i j d) = x0 (ix4 (image c b) i j d) := by
  pointwise [pixels, image]

/-- A pair's pixel scales are its two images'. -/
theorem scales_apply (c : Fin 3) (b : Fin 2) (i : Fin 8) (j : Fin 16) :
    scales x1 c (ix3 b i j) = x1 (ix3 (image c b) i j) := by
  pointwise [scales, image]

/-- A tap's weights are the block's at that tap. -/
theorem weights_apply (kh kw : Fin 3) (d : Fin 1280) (n : Fin 128) :
    weights x2 kh kw (ix4 0 0 d n) = x2 (ix4 kh kw d n) := by
  pointwise [weights]

/-- A half holds the block's values at its row parity and column parity. -/
theorem halfOf_apply (c : Fin 3) (r e : Fin 2) (b : Fin 2) (i : Fin 8) (j : Fin 16) (n : Fin 128) :
    halfOf x0 x1 x2 x3 x4 c r e (ix4 b i j n) = blockVal x0 x1 x2 x3 x4 (image c b) (rowOf r i) (colOf e j) n := by
  rw [halfOf, half_eq]
  simp only [phase, tap, blockVal, tapAt, pixels_apply, scales_apply, weights_apply, ix4_0, ix4_1, ix4_2, ix4_3]
  pointwise [k0_pay2, k0_pay3]

/-- One row of a half, element by element. -/
theorem rowAt_apply (i : Fin 8) (h : FVec Ideal S2x8x16x128 .bf16) (b : Fin 2) (j : Fin 16) (n : Fin 128) :
    rowAt i h (ix4 b 0 j n) = h (ix4 b i j n) := by
  pointwise [rowAt]

/-- A store's payload is the row it stores: even and odd columns are interleaved back into columns. -/
theorem piece_apply (c : Fin 3) (r : Fin 2) (i : Fin 8) (b : Fin 2) (j : Fin 32) (n : Fin 128) :
    (piece x0 x1 x2 x3 x4 c r i).2 (ix4 b 0 j n) = blockVal x0 x1 x2 x3 x4 (image c b) (rowOf r i) j n := by
  show interleaveRows S2x1x32x128 (rowAt i (halfOf x0 x1 x2 x3 x4 c r 0)) (rowAt i (halfOf x0 x1 x2 x3 x4 c r 1))
    bitcasts_S2x1x32x128_w16_S2x1x16x128_w32 (ix4 b 0 j n) = _
  pointwise [rowAt_apply, halfOf_apply]
  split
  · rename_i h
    exact congrArg (fun j' => blockVal x0 x1 x2 x3 x4 (image c b) (rowOf r i) j' n) (Fin.ext (by simp [colOf]; omega))
  · rename_i h
    exact congrArg (fun j' => blockVal x0 x1 x2 x3 x4 (image c b) (rowOf r i) j' n) (Fin.ext (by simp [colOf]; omega))

/-- Where an element of the store of row `2 i + r` lies in the block. -/
theorem place_emb (c : Fin 3) (r : Fin 2) (i : Fin 8) (z : S2x1x32x128.Idx) (a : Fin 4) :
    ((place c r i).emb z a : Nat) = (![2 * c.val, 2 * i.val + r.val, 0, 0] : Fin 4 → Nat) a + (z a : Nat) := by
  unfold place
  exact ValueKit.rect_emb_unit_val (s := S6x16x32x128) _ _ _ z a

/-- The values of the output block. -/
def block : Vec Ideal S6x16x32x128 .bf16 := fun y => blockVal x0 x1 x2 x3 x4 (y 0) (y 1) (y 2) (y 3)

/-- The output block, element by element. -/
theorem out_apply (y : S6x16x32x128.Idx) :
    out0_5 x0 x1 x2 x3 x4 y = blockVal x0 x1 x2 x3 x4 (y 0) (y 1) (y 2) (y 3) := by
  rw [out_eq]
  refine View.canon_apply_of_pieces (block x0 x1 x2 x3 x4) _
    (fun p hp z => ?_) y ?_
  · simp only [pieces, List.mem_flatMap, List.mem_map] at hp
    obtain ⟨c, -, r, -, i, -, rfl⟩ := hp
    have hz : z = ix4 (z 0) 0 (z 2) (z 3) := by
      funext a
      match a with
      | 0 => rfl
      | 1 => exact Subsingleton.elim (α := Fin 1) _ _
      | 2 => rfl
      | 3 => rfl
    have h0 : (place c r i).emb z 0 = image c (z 0) := Fin.ext (place_emb c r i z 0)
    have h1 : (place c r i).emb z 1 = rowOf r i := Fin.ext (by
      have hz1 : (z 1).val < 1 := (z 1).isLt
      refine (place_emb c r i z 1).trans ?_
      show 2 * i.val + r.val + (z 1).val = 2 * i.val + r.val
      omega)
    have h2 : (place c r i).emb z 2 = z 2 := Fin.ext ((place_emb c r i z 2).trans (Nat.zero_add _))
    have h3 : (place c r i).emb z 3 = z 3 := Fin.ext ((place_emb c r i z 3).trans (Nat.zero_add _))
    show _ = blockVal x0 x1 x2 x3 x4 ((place c r i).emb z 0) ((place c r i).emb z 1) ((place c r i).emb z 2) ((place c r i).emb z 3)
    rw [h0, h1, h2, h3]
    refine (congrArg (piece x0 x1 x2 x3 x4 c r i).2 hz).trans ?_
    exact piece_apply x0 x1 x2 x3 x4 c r i (z 0) (z 2) (z 3)
  · have hy0 : (y 0).val < 6 := (y 0).isLt
    have hy1 : (y 1).val < 16 := (y 1).isLt
    refine ⟨piece x0 x1 x2 x3 x4 ⟨(y 0).val / 2, by omega⟩ ⟨(y 1).val % 2, by omega⟩ ⟨(y 1).val / 2, by omega⟩, ?_, ?_⟩
    · simp only [pieces, List.mem_flatMap, List.mem_map]
      refine ⟨_, ?_, _, ?_, _, ?_, rfl⟩
      · generalize (⟨(y 0).val / 2, by omega⟩ : Fin 3) = c; fin_cases c <;> simp
      · generalize (⟨(y 1).val % 2, by omega⟩ : Fin 2) = c; fin_cases c <;> simp
      · generalize (⟨(y 1).val / 2, by omega⟩ : Fin 8) = c; fin_cases c <;> simp
    · show y ∈ (place _ _ _).set
      unfold place
      rw [Rect.mem_set_unit]
      intro a
      match a with
      | 0 => exact ⟨by show 2 * ((y 0).val / 2) ≤ (y 0).val; omega, by show (y 0).val < 2 * ((y 0).val / 2) + 2; omega⟩
      | 1 => exact ⟨by show 2 * ((y 1).val / 2) + (y 1).val % 2 ≤ (y 1).val; omega,
          by show (y 1).val < 2 * ((y 1).val / 2) + (y 1).val % 2 + 1; omega⟩
      | 2 => exact ⟨Nat.zero_le _, by show (y 2).val < 0 + 32; have : (y 2).val < 32 := (y 2).isLt; omega⟩
      | 3 => exact ⟨Nat.zero_le _, by show (y 3).val < 0 + 128; have : (y 3).val < 128 := (y 3).isLt; omega⟩

end Cert.KernelIdeal.Pieces
end
-- ==== Proof.KernelValue.lean ====
/-
  What the kernel's array holds after its nine grid points.
-/
module

public import proofs.«01_k».proof.Proof.Pieces
public import proofs.«01_k».proof.Proof.Gen.KernelIdeal.Value
public import Idealize.ShloMosaic.Lib.Pipeline.ValueKit.Geometry

@[expose] public section

noncomputable section

namespace Cert.KernelIdeal.Pieces

open Idealize.ShloMosaic Idealize.ShloMosaic.TcCoe Idealize.SL.Sem Cert.KernelIdeal Cert.KernelIdeal.Gen Cert.Upsample
open Idealize.ShloMosaic.Pipeline (Dat)

/-- The kernel's result at image `b`, row `r`, column `j` and channel `n`, of the arguments. -/
def result (a0 : Vec Ideal S6x8x16x1280 .fp8e4m3) (a1 : Vec Ideal S6x8x16 .f32) (a2 : Vec Ideal S3x3x1280x1152 .fp8e4m3)
    (a3 a4 : Vec Ideal S1152 .f32) (b : Fin 6) (r : Fin 16) (j : Fin 32) (n : Fin 1152) : EReal :=
  nine (fun kh kw i j => (∑ d : Fin 1280, a0 (ix4 b i j d) * a2 (ix4 kh kw d n)) * a1 (ix3 b i j)) r j * a3 (ix1 n) + a4 (ix1 n)

/-- A block's value is the result at column `n'` when the block holds the arguments at column `n'`. -/
theorem blockVal_eq (x0 : Vec Ideal S6x8x16x1280 .fp8e4m3) (x1 : Vec Ideal S6x8x16 .f32) (x2 : Vec Ideal S3x3x1280x128 .fp8e4m3)
    (x3 x4 : Vec Ideal S1x128 .f32) (a0 : Vec Ideal S6x8x16x1280 .fp8e4m3) (a1 : Vec Ideal S6x8x16 .f32)
    (a2 : Vec Ideal S3x3x1280x1152 .fp8e4m3) (a3 a4 : Vec Ideal S1152 .f32)
    (b : Fin 6) (r : Fin 16) (j : Fin 32) (n : Fin 128) (n' : Fin 1152)
    (h0 : ∀ i j d, x0 (ix4 b i j d) = a0 (ix4 b i j d)) (h1 : ∀ i j, x1 (ix3 b i j) = a1 (ix3 b i j))
    (h2 : ∀ kh kw d, x2 (ix4 kh kw d n) = a2 (ix4 kh kw d n')) (h3 : x3 (ix2 0 n) = a3 (ix1 n'))
    (h4 : x4 (ix2 0 n) = a4 (ix1 n')) :
    blockVal x0 x1 x2 x3 x4 b r j n = result a0 a1 a2 a3 a4 b r j n' := by
  simp only [blockVal, tapAt, result, h0, h1, h2, h3, h4]

variable (m : (ℓ : Loc nD τ sig) → Buf (Elt Ideal) ℓ) (c : Dev nD)

/-- The column scales as the grid finds them: the argument in one row. -/
theorem V_scale : (V m c main_v0 : Vec Ideal S1x1152 .f32)
    = shapeCast S1x1152 (m ((c : Thread nD τ).loc main_arg3) : Vec Ideal S1152 .f32) shapeCasts_S1152_S1x1152 := by
  show StableHlo.after hostOps0 _ (Proc.devRef .tc main_v0) = _
  after_results
  rfl

/-- The biases as the grid finds them: the argument in one row. -/
theorem V_bias : (V m c main_v1 : Vec Ideal S1x1152 .f32)
    = shapeCast S1x1152 (m ((c : Thread nD τ).loc main_arg4) : Vec Ideal S1152 .f32) shapeCasts_S1152_S1x1152 := by
  show StableHlo.after hostOps0 _ (Proc.devRef .tc main_v1) = _
  after_results
  rfl

/-- The pixels are one block, the whole array. -/
theorem index0 : ∀ t : Fin cfg0.N, win0_0.index t = ![0, 0, 0, 0] := (by decide +kernel : ∀ t : Fin grid0.N, _)
/-- The pixel scales are one block, the whole array. -/
theorem index1 : ∀ t : Fin cfg0.N, win0_1.index t = ![0, 0, 0] := (by decide +kernel : ∀ t : Fin grid0.N, _)
/-- Grid point `t` takes column block `t` of the weights. -/
theorem index2 : ∀ t : Fin cfg0.N, win0_2.index t = ![0, 0, 0, t.val] := (by decide +kernel : ∀ t : Fin grid0.N, _)
/-- Grid point `t` takes column block `t` of the column scales. -/
theorem index3 : ∀ t : Fin cfg0.N, win0_3.index t = ![0, t.val] := (by decide +kernel : ∀ t : Fin grid0.N, _)
/-- Grid point `t` takes column block `t` of the biases. -/
theorem index4 : ∀ t : Fin cfg0.N, win0_4.index t = ![0, t.val] := (by decide +kernel : ∀ t : Fin grid0.N, _)
/-- Grid point `t` writes column block `t` of the result. -/
theorem index5 : ∀ t : Fin cfg0.N, win0_5.index t = ![0, 0, 0, t.val] := (by decide +kernel : ∀ t : Fin grid0.N, _)

/-- Column `n` of block `t`. -/
def column (t : Fin cfg0.N) (n : Fin 128) : Fin 1152 :=
  ⟨t.val * 128 + n.val, by have ht : t.val < 9 := t.isLt; omega⟩

/-- The pixels grid point `t` reads are the argument's. -/
theorem block0 (t : Fin cfg0.N) (b : Fin 6) (i : Fin 8) (j : Fin 16) (d : Fin 1280) :
    (iblk m c 0 t : Vec Ideal S6x8x16x1280 .fp8e4m3) (ix4 b i j d) = m ((c : Thread nD τ).loc main_arg0) (ix4 b i j d) := by
  blk_simp [iblk]
  rw [V_main_arg0]
  refine congrArg (m ((c : Thread nD τ).loc main_arg0)) ?_
  blk_ext [index0]

/-- The pixel scales grid point `t` reads are the argument's. -/
theorem block1 (t : Fin cfg0.N) (b : Fin 6) (i : Fin 8) (j : Fin 16) :
    (iblk m c 1 t : Vec Ideal S6x8x16 .f32) (ix3 b i j) = m ((c : Thread nD τ).loc main_arg1) (ix3 b i j) := by
  blk_simp [iblk]
  rw [V_main_arg1]
  refine congrArg (m ((c : Thread nD τ).loc main_arg1)) ?_
  blk_ext [index1]

/-- The weights grid point `t` reads are the argument's at its columns. -/
theorem block2 (t : Fin cfg0.N) (kh kw : Fin 3) (d : Fin 1280) (n : Fin 128) :
    (iblk m c 2 t : Vec Ideal S3x3x1280x128 .fp8e4m3) (ix4 kh kw d n)
      = m ((c : Thread nD τ).loc main_arg2) (ix4 kh kw d (column t n)) := by
  blk_simp [iblk]
  rw [V_main_arg2]
  refine congrArg (m ((c : Thread nD τ).loc main_arg2)) ?_
  blk_ext [index2, column]

/-- The column scales grid point `t` reads are the argument's at its columns. -/
theorem block3 (t : Fin cfg0.N) (n : Fin 128) :
    (iblk m c 3 t : Vec Ideal S1x128 .f32) (ix2 0 n) = m ((c : Thread nD τ).loc main_arg3) (ix1 (column t n)) := by
  have e : (win0_3.blk t).view.emb (ix2 0 n : S1x128.Idx) = (ix2 0 (column t n) : S1x1152.Idx) := by blk_ext [index3, column]
  blk_simp [iblk]
  refine (congrArg (V m c main_v0) e).trans ?_
  rw [V_scale]
  pointwise

/-- The biases grid point `t` reads are the argument's at its columns. -/
theorem block4 (t : Fin cfg0.N) (n : Fin 128) :
    (iblk m c 4 t : Vec Ideal S1x128 .f32) (ix2 0 n) = m ((c : Thread nD τ).loc main_arg4) (ix1 (column t n)) := by
  have e : (win0_4.blk t).view.emb (ix2 0 n : S1x128.Idx) = (ix2 0 (column t n) : S1x1152.Idx) := by blk_ext [index4, column]
  blk_simp [iblk]
  refine (congrArg (V m c main_v1) e).trans ?_
  rw [V_bias]
  pointwise

/-- The array after the run holds the result at every index. -/
theorem final :
    (dats m 0 c).arrAt 5 cfg0.N = fun y : S6x16x32x1152.Idx =>
      result (m ((c : Thread nD τ).loc main_arg0)) (m ((c : Thread nD τ).loc main_arg1)) (m ((c : Thread nD τ).loc main_arg2))
        (m ((c : Thread nD τ).loc main_arg3)) (m ((c : Thread nD τ).loc main_arg4)) (y 0) (y 1) (y 2) (y 3) := by
  refine (dats m 0 c).arrAt_eq_of_covers 5 _ (by decide +kernel) fun t hf y => ?_
  blk_simp
  rw [after0_5]
  have e0 : (win0_5.blk t).view.emb y 0 = y 0 := Fin.ext (by blk_simp [index5])
  have e1 : (win0_5.blk t).view.emb y 1 = y 1 := Fin.ext (by blk_simp [index5])
  have e2 : (win0_5.blk t).view.emb y 2 = y 2 := Fin.ext (by blk_simp [index5])
  have e3 : (win0_5.blk t).view.emb y 3 = column t (y 3) := Fin.ext (by blk_simp [index5, column])
  rw [e0, e1, e2, e3]
  exact (out_apply _ _ _ _ _ y).trans (blockVal_eq _ _ _ _ _ _ _ _ _ _ _ _ _ _ _ (block0 m c t _) (block1 m c t _)
    (fun kh kw d => block2 m c t kh kw d _) (block3 m c t _) (block4 m c t _))

end Cert.KernelIdeal.Pieces

end
-- ==== Proof.RefValue.lean ====
/-
  What the reference's array holds.
-/
module

public import proofs.«01_k».proof.Proof.Source
public import proofs.«01_k».proof.Proof.Gen.ReferenceIdeal.Value
public import Idealize.ShloMosaic.Lib.Pointwise

@[expose] public section

noncomputable section

namespace Cert.ReferenceIdeal.Taps

open Idealize.ShloMosaic Cert.ReferenceIdeal Cert.ReferenceIdeal.Gen Cert.Upsample

variable (a0 : Vec Ideal S6x8x16x1280 .fp8e4m3) (a1 : Vec Ideal S6x8x16 .f32) (a2 : Vec Ideal S3x3x1280x1152 .fp8e4m3)
  (a3 a4 : Vec Ideal S1152 .f32)

/-- One pixel of the upsampled array, its first and last rows and columns twice. -/
theorem padded_apply (b : Fin 6) (i : Fin 18) (j : Fin 34) (d : Fin 1280) :
    k0_pay3 a0 a1 (ix4 b i j d) = a0 (ix4 b ⟨min (i.val - 1) 15 / 2, by omega⟩ ⟨min (j.val - 1) 31 / 2, by omega⟩ d)
      * a1 (ix3 b ⟨min (i.val - 1) 15 / 2, by omega⟩ ⟨min (j.val - 1) 31 / 2, by omega⟩) := by
  pointwise [k0_pay3]
  split_ifs <;>
    exact congrArg₂ (fun i j => a0 (ix4 b i j d) * a1 (ix3 b i j)) (Fin.ext (by simp only; omega)) (Fin.ext (by simp only; omega))

/-! The padded array's pixels at the three offsets of a tap. -/

/-- The padded row at offset 0 is the row the filter's row 0 reads. -/
theorem row_zero (r : Fin 16) (h : min (r.val - 1) 15 / 2 < 8) : (⟨min (r.val - 1) 15 / 2, h⟩ : Fin 8) = row r 0 := rfl
/-- The padded row at offset 1 is the row the filter's row 1 reads. -/
theorem row_one (r : Fin 16) (h : min r.val 15 / 2 < 8) : (⟨min r.val 15 / 2, h⟩ : Fin 8) = row r 1 := rfl
/-- The padded row at offset 2 is the row the filter's row 2 reads. -/
theorem row_two (r : Fin 16) (h : min (2 + r.val - 1) 15 / 2 < 8) : (⟨min (2 + r.val - 1) 15 / 2, h⟩ : Fin 8) = row r 2 := by
  simp only [Nat.add_comm 2]; rfl
/-- The padded column at offset 0 is the column the filter's column 0 reads. -/
theorem col_zero (j : Fin 32) (h : min (j.val - 1) 31 / 2 < 16) : (⟨min (j.val - 1) 31 / 2, h⟩ : Fin 16) = col j 0 := rfl
/-- The padded column at offset 1 is the column the filter's column 1 reads. -/
theorem col_one (j : Fin 32) (h : min j.val 31 / 2 < 16) : (⟨min j.val 31 / 2, h⟩ : Fin 16) = col j 1 := rfl
/-- The padded column at offset 2 is the column the filter's column 2 reads. -/
theorem col_two (j : Fin 32) (h : min (2 + j.val - 1) 31 / 2 < 16) : (⟨min (2 + j.val - 1) 31 / 2, h⟩ : Fin 16) = col j 2 := by
  simp only [Nat.add_comm 2]; rfl

/-- One tap of the reference: the scaled pixel's channels against the tap's column. -/
def tap (kh kw : Fin 3) (b : Fin 6) (n : Fin 1152) (i : Fin 8) (j : Fin 16) : EReal :=
  ∑ d : Fin 1280, (a0 (ix4 b i j d) * a1 (ix3 b i j)) * a2 (ix4 kh kw d n)

/-- The reference's result: its nine products added up, scaled and shifted channel by channel. -/
theorem value (b : Fin 6) (r : Fin 16) (j : Fin 32) (n : Fin 1152) :
    Value.G5 a0 a1 a2 a3 a4 (ix4 b r j n)
      = nine (fun kh kw i j => tap a0 a1 a2 kh kw b n i j) r j * a3 (ix1 n) + a4 (ix1 n) := by
  pointwise [Value.G5, k0_pay1, k0_pay2, k0_pay4, k0_pay5, k0_pay6, padded_apply]
  simp only [row_zero, row_one, row_two, col_zero, col_one, col_two, nine, Fin.sum_univ_three, tap, add_assoc]

end Cert.ReferenceIdeal.Taps

end
-- ==== Proof.Equation.lean ====
/-
  The kernel's sum of nine scaled taps is the reference's sum of nine taps of scaled pixels, wherever every pixel scale is
  nonnegative and finite.
-/
module

public import proofs.«01_k».proof.Proof.KernelValue
public import proofs.«01_k».proof.Proof.RefValue
public import proofs.«01_k».proof.Proof.Gen.Pre_pre
public import Idealize.ShloMosaic.Lib.ReduceAll

@[expose] public section

noncomputable section

namespace Cert.Equation

open Idealize.ShloMosaic Cert.KernelIdeal Cert.Upsample

/-- A nonnegative finite factor moves through a finite sum, whatever the summands. -/
theorem sum_mul {ι : Type} (S : Finset ι) (f : ι → EReal) {s : EReal} (h0 : 0 ≤ s) (h1 : s ≠ ⊤) :
    (∑ d ∈ S, f d) * s = ∑ d ∈ S, f d * s := by
  classical
  induction S using Finset.induction_on with
  | empty => simp
  | insert a S ha ih =>
    rw [Finset.sum_insert ha, Finset.sum_insert ha, EReal.right_distrib_of_nonneg_of_ne_top h0 h1, ih]

variable (a0 : Vec Ideal S6x8x16x1280 .fp8e4m3) (a1 : Vec Ideal S6x8x16 .f32) (a2 : Vec Ideal S3x3x1280x1152 .fp8e4m3)
  (a3 a4 : Vec Ideal S1152 .f32)

/-- Scaling a tap is taking the tap of the scaled pixel. -/
theorem tap_eq (h : ∀ p, 0 ≤ a1 p ∧ a1 p ≠ ⊤) (kh kw : Fin 3) (b : Fin 6) (n : Fin 1152) (i : Fin 8) (j : Fin 16) :
    (∑ d : Fin 1280, a0 (ix4 b i j d) * a2 (ix4 kh kw d n)) * a1 (ix3 b i j)
      = Cert.ReferenceIdeal.Taps.tap a0 a1 a2 kh kw b n i j := by
  rw [sum_mul _ _ (h _).1 (h _).2]
  exact Finset.sum_congr rfl fun d _ => mul_right_comm _ _ _

/-- The kernel's array is the reference's, wherever the pixel scales are nonnegative and finite. -/
theorem result_eq (h : ∀ p, 0 ≤ a1 p ∧ a1 p ≠ ⊤) :
    (fun y : S6x16x32x1152.Idx => Cert.KernelIdeal.Pieces.result a0 a1 a2 a3 a4 (y 0) (y 1) (y 2) (y 3))
      = Cert.ReferenceIdeal.Value.G5 a0 a1 a2 a3 a4 := by
  funext y
  rw [eq_ix4 y]
  refine Eq.trans ?_ (Cert.ReferenceIdeal.Taps.value a0 a1 a2 a3 a4 _ _ _ _).symm
  exact congrArg (fun t => nine t (y 1) (y 2) * a3 (ix1 (y 3)) + a4 (ix1 (y 3)))
    (funext fun kh => funext fun kw => funext fun i => funext fun j => tap_eq a0 a1 a2 h kh kw (y 0) (y 3) i j)

/-- The precondition, read: every pixel scale is nonnegative and finite. -/
theorem scales_of_pre (h : Cert.Pre_pre.fn (F := Ideal) a0 a1 a2 a3 a4 = fun _ => 1#1) :
    ∀ p, 0 ≤ a1 p ∧ a1 p ≠ ⊤ := by
  intro p
  simp only [Cert.Pre_pre.fn] at h
  have hb : ∀ (b : BitVec 32) (p : S6x8x16.Idx), broadcastInDim Cert.Pre_pre.S6x8x16 ![] Cert.Pre_pre.Facts.bcast_S_S6x8x16
      (constant (F := Ideal) Cert.Pre_pre.S_ .f32 b) p = Ideal.ofBits .f32 b := fun _ _ => rfl
  haveI : Subsingleton Cert.Pre_pre.S_.Idx := ⟨fun _ _ => funext fun a => a.elim0⟩
  have h' := Host.reduce_andi_all _ _ _ _ _ (congrFun h fun a => a.elim0) p
  obtain ⟨h0, h1⟩ := IntOp.andi_eq_one.1 h'
  have hinf : Ideal.ofBits .f32 0x7F800000#32 = ⊤ := by simp [Ideal.ofBits, Ideal.ieee]
  simp only [cmpf, hb, Ideal.cmpf_def, Ideal.cmp, hinf, Ideal.ofBits_zero_f32] at h0 h1
  have read : ∀ q : Prop, [Decidable q] → BitVec.ofBool (decide q) = 1#1 → q := fun q _ e => by
    by_contra hq
    rw [decide_eq_false hq] at e
    exact absurd e (by decide)
  exact ⟨read _ h0, (read _ h1).ne⟩

end Cert.Equation

end
-- ==== Proof.lean ====
/- The certificate: the three frames, the packing rule's statement, and the equality over the extended reals of the kernel's
   array (Proof/KernelValue.lean) and the reference's (Proof/RefValue.lean), by Proof/Equation.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelIdeal.Value
public import proofs.«01_k».proof.Proof.Gen.Pre_pre
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The bf16 packing rule holds of the kernel and its idealization. -/
theorem preserves : Cert.preserves_Kernel_KernelIdeal :=
  ⟨IdealRules.bf16_pair.packStatement _, IdealRules.bf16_pair.statement _ _⟩

/-- At the ideal instance the kernel's array is `result` of the arguments and the reference's `G5` of them; the two are equal
    wherever the precondition holds. -/
theorem algebraic : Cert.algebraic_KernelIdeal_ReferenceIdeal_pre_pre := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  refine ((Cert.KernelIdeal.Pieces.final m c).trans ?_).symm
  exact Cert.Equation.result_eq _ _ _ _ _ (Cert.Equation.scales_of_pre _ _ _ _ _ (hpre c))

/-- Every claim of the certificate. -/
theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
